-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1x345x1024 : Shape := ⟨3, ![1, 345, 1024]⟩
abbrev S_ : Shape := ⟨0, ![]⟩
abbrev S2760x128 : Shape := ⟨2, ![2760, 128]⟩
abbrev S1380x128 : Shape := ⟨2, ![1380, 128]⟩
abbrev S345x1024 : Shape := ⟨2, ![345, 1024]⟩

abbrev nBuf : Table → Nat
  | .hbm => 5
  | _ => 0

abbrev bufTy : (tb : Table) → Fin (nBuf tb) → BufTy
  | .hbm, ⟨0, _⟩ => ⟨S1x345x1024, .f16⟩
  | .hbm, ⟨1, _⟩ => ⟨S_, .i32⟩
  | .hbm, ⟨2, _⟩ => ⟨S2760x128, .f16⟩
  | .hbm, ⟨3, _⟩ => ⟨S2760x128, .f16⟩
  | .hbm, ⟨4, _⟩ => ⟨S345x1024, .f16⟩
  | _, _ => ⟨S1x345x1024, .f16⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scs : Ref sig .scScalar := ⟨.hbm, 2, rfl⟩
abbrev main_v1_scs : Ref sig .scScalar := ⟨.hbm, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_mult1 (i : grid0.Coords) : BitVec 32 :=
  let arg0 : BitVec 32 := BitVec.ofNat 32 (i 0).val
  let c1380_i32 : BitVec 32 := 1380#32
  let v0 : BitVec 32 := Scalar.muli arg0 c1380_i32
  v0
def k0_off1 (i : grid0.Coords) : Fin 2 → Nat :=
  let arg0 : BitVec 32 := BitVec.ofNat 32 (i 0).val
  let c1380_i32 : BitVec 32 := 1380#32
  let v0 : BitVec 32 := Scalar.muli arg0 c1380_i32
  let v1 : BitVec 32 := v0
  let c0_i32_r0 : BitVec 32 := 0#32
  ![v1.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S1x345x1024 : Shape := ⟨3, ![1, 345, 1024]⟩
abbrev S_ : Shape := ⟨0, ![]⟩
abbrev S345x1024 : Shape := ⟨2, ![345, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x345x1024, .f16⟩
  | .hbm, ⟨1, _⟩ => ⟨S_, .i32⟩
  | .hbm, ⟨2, _⟩ => ⟨S_, .i32⟩
  | .hbm, ⟨3, _⟩ => ⟨S_, .i1⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x345x1024, .f16⟩
  | .hbm, ⟨24, _⟩ => ⟨S345x1024, .f16⟩
  | _, _ => ⟨S1x345x1024, .f16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3 : Ref sig .tc := ⟨.hbm, 9, rfl⟩
abbrev main_c_3 : Ref sig .tc := ⟨.hbm, 10, rfl⟩
abbrev main_c_4 : Ref sig .tc := ⟨.hbm, 11, rfl⟩
abbrev main_v4 : Ref sig .tc := ⟨.hbm, 12, rfl⟩
abbrev main_c_5 : Ref sig .tc := ⟨.hbm, 13, rfl⟩
abbrev main_v5 : Ref sig .tc := ⟨.hbm, 14, rfl⟩
abbrev main_c_6 : Ref sig .tc := ⟨.hbm, 15, rfl⟩
abbrev main_c_7 : Ref sig .tc := ⟨.hbm, 16, rfl⟩
abbrev main_v6 : Ref sig .tc := ⟨.hbm, 17, rfl⟩
abbrev main_c_8 : Ref sig .tc := ⟨.hbm, 18, rfl⟩
abbrev main_c_9 : Ref sig .tc := ⟨.hbm, 19, rfl⟩
abbrev main_v7 : Ref sig .tc := ⟨.hbm, 20, rfl⟩
abbrev main_c_10 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Proof.Halves.lean ====
/-
  The table cut in two. The kernel sees the table as 2760 rows of 128 elements, and each of its two sequencers copies 1380
  consecutive rows: core number `c` those from row `1380 * c` on. This file states that the two parts are disjoint and
  together are the whole array, and that a transfer of a part onto the same part of another array leaves there the elements
  that the first array holds at the same positions.
-/
module

public import proofs.«01_k».proof.Defs
public import proofs.«01_k».proof.Proof.Gen.KernelIdeal
public import proofs.«01_k».proof.Proof.Gen.KernelIdeal.Skeleton
public import Idealize.ShloMosaic.Lib.Writes

@[expose] public section

noncomputable section

namespace Cert.Proof.Copy

open Cert.KernelIdeal Cert.KernelIdeal.Gen
open Idealize.ShloMosaic

/-- The grid point of core number `c`. -/
def point (c : Fin (grid0.bound 0)) : grid0.Coords := fun | 0 => c | ⟨_ + 1, h⟩ => absurd h (Nat.not_lt.2 (Nat.le_add_left _ _))

/-- The rows that core number `c` copies. -/
abbrev part (c : Fin (grid0.bound 0)) : Rect S2760x128 :=
  Rect.unit (s := S2760x128) (k0_off1 (point c)) S1380x128.size (Facts₀.k0_off1_inb (point c))

/-- The elements of the 1380 rows from row `1380 * n` on. -/
def rows (n : ℕ) : Finset S2760x128.Idx := Finset.univ.filter fun i => 1380 * n ≤ (i 0).val ∧ (i 0).val < 1380 * n + 1380

theorem mem_rows (n : ℕ) (i : S2760x128.Idx) : i ∈ rows n ↔ 1380 * n ≤ (i 0).val ∧ (i 0).val < 1380 * n + 1380 := by
  simp only [rows, Finset.mem_filter, Finset.mem_univ, true_and]

/-- Core `c`'s part is the 1380 rows from row `1380 * c` on. -/
theorem part_set (c : Fin (grid0.bound 0)) : (part c).set = rows c.val := by
  ext i
  have hlane : (i 1).val < 128 := (i 1).isLt
  rw [mem_rows, Rect.mem_set_unit, k0_off1_eq, Fin.forall_fin_two]
  exact ⟨fun h => h.1, fun h => ⟨h, Nat.zero_le _, (Nat.zero_add 128).symm ▸ hlane⟩⟩

/-- Two cores' rows share no element. -/
theorem rows_disjoint (n n' : ℕ) (h : n ≠ n') : Disjoint (rows n) (rows n') := by
  rw [Finset.disjoint_left]
  intro i hi hi'
  have := (mem_rows n i).1 hi
  have := (mem_rows n' i).1 hi'
  omega

/-- The two cores' rows together are the whole array. -/
theorem rows_cover : (Finset.univ : Finset (Fin 2)).biUnion (fun c => rows c.val) = Finset.univ := by
  refine Finset.eq_univ_iff_forall.mpr fun i => ?_
  have hi : (i 0).val < 2760 := (i 0).isLt
  by_cases h : (i 0).val < 1380
  · exact Finset.mem_biUnion.mpr ⟨0, Finset.mem_univ _, (mem_rows 0 i).2 ⟨Nat.zero_le _, h⟩⟩
  · exact Finset.mem_biUnion.mpr ⟨1, Finset.mem_univ _, (mem_rows 1 i).2 ⟨Nat.not_lt.1 h, hi⟩⟩

/-- Core `c`'s part of the source array and of the target array, as the kernel cuts them out. -/
abbrev srcPart (c : Fin (grid0.bound 0)) : Memref sig .scScalar .hbm S1380x128 .f16 :=
  (Memref.whole main_v0_scs : Memref sig .scScalar .hbm S2760x128 .f16).slice (part c) (fun _ => rfl)
abbrev dstPart (c : Fin (grid0.bound 0)) : Memref sig .scScalar .hbm S1380x128 .f16 :=
  (Memref.whole main_v1_scs : Memref sig .scScalar .hbm S2760x128 .f16).slice (part c) (fun _ => rfl)

/-- The two slices cover the core's part of their arrays. -/
theorem src_set (c : Fin (grid0.bound 0)) : (srcPart c).view.set = rows c.val :=
  (View.set_slice_whole (main_v0_scs : Ref sig .scScalar) (part c)).trans (part_set c)
theorem dst_set (c : Fin (grid0.bound 0)) : (dstPart c).view.set = rows c.val :=
  (View.set_slice_whole (main_v1_scs : Ref sig .scScalar) (part c)).trans (part_set c)

/-- After core `c`'s part of `x` is written over the whole of the same part of `y`, the array holds `x`'s elements on the
    core's rows. -/
theorem copied {Val : EltTy → Type} (c : Fin (grid0.bound 0)) (x y : S2760x128.Idx → Val .f16) :
    ∀ i ∈ rows c.val, (dstPart c).view.writes Val y [⟨Rect.whole S1380x128, (srcPart c).view.read Val x⟩] i = x i := by
  intro i hi
  rw [← dst_set] at hi
  obtain ⟨j, -, rfl⟩ := Finset.mem_map.mp hi
  have hj : ((dstPart c).view.slice (Rect.whole S1380x128)).emb j = (dstPart c).view.emb j :=
    congrArg (dstPart c).view.emb (Rect.emb_whole_apply S1380x128 j)
  rw [View.writes_singleton]
  refine (congrArg _ hj.symm).trans (Eq.trans ?_ (show (srcPart c).view.read Val x j = x ((dstPart c).view.emb j) from rfl))
  exact View.write_emb_of_mem (v := (dstPart c).view.slice (Rect.whole S1380x128)) (Val := Val) y _ (Finset.mem_univ j)

end Cert.Proof.Copy

end
-- ==== Proof.Body.lean ====
/-
  The kernel on one sequencer. Core number `c` is handed its rows of the flat table, at their contents, and the same rows of
  the output array, at any contents. It starts one transfer of the rows from the table to the output and waits for it. It
  hands back the table's rows unchanged and the output's rows at the table's contents. The body is run once, at a symbolic
  core number.
-/
module

public import proofs.«01_k».proof.Proof.Halves
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Copy

open Cert.KernelIdeal Cert.KernelIdeal.Gen
open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its ghost state -/

/-- The kernels' labels, the SparseCore call, and the body table that the launch runs. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, and beside them the counters of the transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What the call hands out and takes back -/

variable (m : (ℓ : Loc nD τ sig) → Buf (Elt F) ℓ)

/-- The table as @main gets it, the flat table, and the array that the kernel fills. -/
abbrev argLoc (d : Dev nD) : Loc nD τ sig := (SparseCore.T d).loc main_arg0
abbrev srcLoc (d : Dev nD) : Loc nD τ sig := (SparseCore.T d).loc main_v0
abbrev dstLoc (d : Dev nD) : Loc nD τ sig := (SparseCore.T d).loc main_v1

/-- The table's elements as 2760 rows of 128: what @main's first reshape makes of the argument. -/
def flat (d : Dev nD) : Buf (Elt F) (srcLoc d) := shapeCast S2760x128 (m (argLoc d)) shapeCasts_S1x345x1024_S2760x128

/-- Core number `n`'s rows of the table at their contents, and of the output at contents `f`. -/
def srcRows (d : Dev nD) (n : ℕ) : sProp 𝕄 := srcLoc d ↦[rows n]{fullShare} flat m d
def dstRows (d : Dev nD) (n : ℕ) (f : Buf (Elt F) (dstLoc d)) : sProp 𝕄 := dstLoc d ↦[rows n]{fullShare} f

/-- Handed to core `n`: its rows of both arrays, the output's at any contents. -/
def given (d : Dev nD) (n : ℕ) : sProp 𝕄 := iprop(srcRows m d n ∗ ∃ f, dstRows d n f)

/-- Taken back from core `n`: its rows of both arrays, both at the table's contents. -/
def returned (d : Dev nD) (n : ℕ) : sProp 𝕄 := iprop(srcRows m d n ∗ dstRows d n (flat m d))

instance given_storable (d : Dev nD) (n : ℕ) : BI.Storable (upEmb : UEmb _ 𝕄) (given m d n) := by
  unfold given srcRows dstRows; infer_instance
instance returned_storable (d : Dev nD) (n : ℕ) : BI.Storable (upEmb : UEmb _ 𝕄) (returned m d n) := by
  unfold returned srcRows dstRows; infer_instance

/-- The call's payloads: each sequencer is given its rows and returns them copied; there is no vector-subcore task, and the
    kernel needs nothing from the launch. -/
def P : (K (F := F)).Pay (nD := nD) (Val := Elt F) (Name := ℕ) (U := UU) where
  st := fun _ d c => given m d c.val
  dn := fun _ d c => returned m d c.val
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The body -/

/-- The sequencer that runs the kernel at core number `c`, and the semaphore of its transfer. -/
abbrev seqOf (d : Dev nD) (c : Fin (grid0.bound 0)) : Thread nD τ := S d (c.castLE hcore0)
abbrev dmaCell (d : Dev nD) (c : Fin τ.nSC) : GSem nD τ sig := (S d c, .dma cc0_scoped0.sem)

/-- A sequencer's semaphores at zero: the transfer's, and the rest. -/
theorem ownSems0_split (d : Dev nD) (c : Fin τ.nSC) :
    (ownSems0 (S d c) : sProp 𝕄) = iprop(semVal (dmaCell d c) 0 ∗ bigSep ((ownCells (S d c)).erase (dmaCell d c)) fun g => semVal g 0) := by
  unfold SparseCore.Cfg.ownSems0
  exact SparseCore.bigSep_erase' ((mem_ownCells (g := dmaCell d c)).mpr
    ⟨rfl, show (SemLoc.dma cc0_scoped0.sem : SemLoc sig).isScoped .scScalar = true by decide⟩)

/-- The rows of an array as the kernel's slice addresses them are the core's rows. -/
theorem src_pts (d : Dev nD) (c : Fin (grid0.bound 0)) (f : Buf (Elt F) (srcLoc d)) :
    ((srcPart c).view.loc (seqOf d c) ↦[(srcPart c).view.set]{fullShare} f : sProp 𝕄) = srcLoc d ↦[rows c.val]{fullShare} f := by
  rw [src_set]
theorem dst_pts (d : Dev nD) (c : Fin (grid0.bound 0)) (f : Buf (Elt F) (dstLoc d)) :
    ((dstPart c).view.loc (seqOf d c) ↦[(dstPart c).view.set]{fullShare} f : sProp 𝕄) = dstLoc d ↦[rows c.val]{fullShare} f := by
  rw [dst_set]

variable [FloatOps F]

/-- The kernel on core `c`'s sequencer: from its rows of both arrays to its rows copied, its buffers and semaphores as they
    were. -/
theorem body (d : Dev nD) (c : Fin (grid0.bound 0)) (O : CellTallies nD τ sig (HIx 1)) (W : Waits sig (HIx 1)) (hO : ∀ g, O g none = 0) :
    iprop(levAts (K (F := F)).L (K (F := F)).lev ∗ emp ∗ given m d c.val
        ∗ scopedBufs (seqOf d c) ∗ scopedSems0 (seqOf d c) ∗ owes (seqOf d c) O W)
      ⊢ wp frame (wpE (defs₀ (F := F)) 𝒱₀ (seqOf d c) none) Set.univ
          (cc0__copy_flat (point c) (Memref.whole main_v0_scs) (Memref.isWhole_whole _) (Memref.whole main_v1_scs) (Memref.isWhole_whole _) cc0_scoped0)
          fun _ => iprop(returned m d c.val ∗ scopedBufs (seqOf d c) ∗ scopedSems0 (seqOf d c)
            ∗ ∃ W', ⌜∀ p ∈ W', p ∈ W ∨ p.2 = none⌝ ∗ owes (seqOf d c) O W') := by
  simp only [cc0__copy_flat_eq_skeleton]; unfold cc0__copy_flat_skel given returned srcRows dstRows
  iintro ⟨#Hlv, -, ⟨Hsrc, %fo, Hdst⟩, Hsb, Hss, HO⟩
  ihave Hss' := (SparseCore.Cfg.scopedSems0_S_elim (Val := Elt F) d (c.castLE hcore0)) $$ Hss
  icases Hss' with ⟨Hown, Hsubs⟩
  ihave Hown' := (Entails.of_eq (ownSems0_split (F := F) d (c.castLE hcore0))) $$ Hown
  icases Hown' with ⟨Hsem, Hrest⟩
  ihave Hmw := ((K (F := F)).mayWaits_none (thr := seqOf d c) hO) $$ Hlv
  ihave Hsrc' := (Entails.of_eq (src_pts (F := F) d c _).symm) $$ Hsrc
  ihave Hdst' := (Entails.of_eq (dst_pts (F := F) d c _).symm) $$ Hdst
  sl_exec (disch := exact View.amount_pos _ _ (show 0 < S1380x128.numel by decide))
  sl_step
  isplitl [Hsrc' Hdst']
  · isplitl [Hsrc']
    · iapply (Entails.of_eq (src_pts (F := F) d c _)); iexact Hsrc'
    · iapply (Entails.of_eq (pointsTo_congr (ℓ := dstLoc d) (copied c (flat m d) fo)))
      iapply (Entails.of_eq (dst_pts (F := F) d c _)); iexact Hdst'
  isplitl [Hsb]; · iexact Hsb
  isplitl [Hsem Hrest Hsubs]
  · iapply (SparseCore.Cfg.scopedSems0_S_intro (Val := Elt F) d _)
    isplitl [Hsem Hrest]
    · iapply (Entails.of_eq (ownSems0_split (F := F) d (c.castLE hcore0)).symm)
      isplitl [Hsem]; · iexact Hsem
      iexact Hrest
    · iexact Hsubs
  iexists (insert (SemLoc.dma cc0_scoped0.sem, (default : HIx 1)) W); isplitr
  · ipureintro; intro p hp
    rcases Finset.mem_insert.mp hp with hp | hp
    · exact .inr (hp ▸ rfl)
    · exact .inl hp
  · iexact HO

/-! ## The launch's obligation -/

/-- The body table's entry for the call on a sequencer: the kernel at that sequencer's core number. -/
theorem defs₀_scalar (c : Fin τ.nSC) :
    defs₀ (F := F) (.scScalar c) 0 ()
      = SparseCore.onCore hcore0 (fun c => cc0__copy_flat (point c) (Memref.whole main_v0_scs) (Memref.isWhole_whole _)
          (Memref.whole main_v1_scs) (Memref.isWhole_whole _) cc0_scoped0) ⟨⟩ c := rfl

/-- What the launch asks of the call: each sequencer's run of the kernel. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  refine (body m d c O W hO).trans (wp_mono frame _ _ fun _ => ?_)
  show _ ⊢ iprop(returned m d c.val ∗ _)
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Copy

end
-- ==== Proof.Run.lean ====
/-
  The kernel program's run. @main reshapes the table to 2760 rows of 128, starts the two sequencers and waits for them, and
  reshapes what they filled to the result. This file cuts the two flat arrays between the sequencers and joins them again,
  follows @main, and concludes, over any float values: every execution ends, the result holds the table's elements at the
  result's shape, both arguments are unchanged and every semaphore counter is zero.
-/
module

public import proofs.«01_k».proof.Proof.Body
public import Idealize.ShloMosaic.Lib.Pointwise

@[expose] public section

noncomputable section

namespace Cert.Proof.Copy

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The arrays cut between the sequencers -/

/-- A flat array held whole is the two cores' rows of it. -/
theorem src_halves (d : Dev nD) (f : Buf (Elt F) (srcLoc d)) :
    (srcLoc d ↦{fullShare} f : sProp 𝕄) = iprop((srcLoc d ↦[rows 0]{fullShare} f) ∗ srcLoc d ↦[rows 1]{fullShare} f) := by
  refine (congrArg (fun I => (srcLoc d ↦[I]{fullShare} f : sProp 𝕄)) rows_cover.symm).trans ?_
  refine (pointsTo_biUnion (ℓ := srcLoc d) Finset.univ (fun c : Fin 2 => rows c.val)
    fun c _ c' _ h => rows_disjoint _ _ fun e => h (Fin.ext e)).trans ?_
  rw [show (Finset.univ : Finset (Fin 2)) = {0, 1} by decide, SparseCore.bigSep_insert' (by decide), bigSep_singleton]
  rfl
theorem dst_halves (d : Dev nD) (f : Buf (Elt F) (dstLoc d)) :
    (dstLoc d ↦{fullShare} f : sProp 𝕄) = iprop((dstLoc d ↦[rows 0]{fullShare} f) ∗ dstLoc d ↦[rows 1]{fullShare} f) := by
  refine (congrArg (fun I => (dstLoc d ↦[I]{fullShare} f : sProp 𝕄)) rows_cover.symm).trans ?_
  refine (pointsTo_biUnion (ℓ := dstLoc d) Finset.univ (fun c : Fin 2 => rows c.val)
    fun c _ c' _ h => rows_disjoint _ _ fun e => h (Fin.ext e)).trans ?_
  rw [show (Finset.univ : Finset (Fin 2)) = {0, 1} by decide, SparseCore.bigSep_insert' (by decide), bigSep_singleton]
  rfl

/-- The call's payloads over its two cores, written out. -/
theorem st_pair (d : Dev nD) :
    (bigSep Finset.univ fun c : Fin ((K (F := F)).nCore 0) => (P m).st 0 d c) = iprop(given m d 0 ∗ given m d 1) := by
  show (bigSep (Finset.univ : Finset (Fin 2)) fun c => given m d c.val) = _
  rw [show (Finset.univ : Finset (Fin 2)) = {0, 1} by decide, SparseCore.bigSep_insert' (by decide), bigSep_singleton]
  rfl
theorem dn_pair (d : Dev nD) :
    (bigSep Finset.univ fun c : Fin ((K (F := F)).nCore 0) => (P m).dn 0 d c) = iprop(returned m d 0 ∗ returned m d 1) := by
  show (bigSep (Finset.univ : Finset (Fin 2)) fun c => returned m d c.val) = _
  rw [show (Finset.univ : Finset (Fin 2)) = {0, 1} by decide, SparseCore.bigSep_insert' (by decide), bigSep_singleton]
  rfl

/-- The two arrays whole give each core its rows. -/
theorem give (d : Dev nD) (f : Buf (Elt F) (dstLoc d)) :
    iprop((srcLoc d ↦{fullShare} flat m d) ∗ dstLoc d ↦{fullShare} f) ⊢ (iprop(given m d 0 ∗ given m d 1) : sProp 𝕄) := by
  rw [src_halves, dst_halves]; unfold given srcRows dstRows
  iintro ⟨⟨Hs0, Hs1⟩, Hd0, Hd1⟩
  isplitl [Hs0 Hd0]
  · isplitl [Hs0]; · iexact Hs0
    iexists f; iexact Hd0
  · isplitl [Hs1]; · iexact Hs1
    iexists f; iexact Hd1

/-- The cores' rows, copied, are the two arrays whole, both at the table's contents. -/
theorem takeBack (d : Dev nD) :
    (iprop(returned m d 0 ∗ returned m d 1) : sProp 𝕄) ⊢ iprop((srcLoc d ↦{fullShare} flat m d) ∗ dstLoc d ↦{fullShare} flat m d) := by
  rw [src_halves, dst_halves]; unfold returned srcRows dstRows
  iintro ⟨⟨Hs0, Hd0⟩, Hs1, Hd1⟩
  isplitl [Hs0 Hs1]
  · isplitl [Hs0] <;> iassumption
  · isplitl [Hd0] <;> iassumption

/-! ## The launch element -/

def u₀ : UU := (initOf (K (F := F)).hsCells (K (F := F)).hsToks, 1)

/-- The launch element holds the handshakes' rounds; the kernel needs nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [hx, hd]
  unfold u₀
  iintro Hu
  ihave H := (ownU_pair _ _) $$ Hu
  icases H with ⟨HH, -⟩
  imodintro
  isplitl [HH]; · iexact HH
  isplitr
  · iempintro
  · iempintro

/-! ## @main -/

/-- The other two buffers of @main: the index argument and the result. -/
abbrev idxLoc (d : Dev nD) : Loc nD τ sig := (SparseCore.T d).loc main_arg1
abbrev resLoc (d : Dev nD) : Loc nD τ sig := (SparseCore.T d).loc main_v2

/-- What @main returns: the flat table at the result's shape. -/
def result (d : Dev nD) : Buf (Elt F) (resLoc d) := shapeCast S345x1024 (flat m d) shapeCasts_S2760x128_S345x1024

/-- The two reshapes are one: the result is the table at the result's shape. -/
theorem result_eq (d : Dev nD) (h : S1x345x1024.ShapeCasts S345x1024) : result m d = shapeCast S345x1024 (m (argLoc d)) h :=
  shapeCast_comp (m (argLoc d)) shapeCasts_S1x345x1024_S2760x128 shapeCasts_S2760x128_S345x1024

/-- The five buffers of @main. -/
theorem unscopedBufs_eq (d : Dev nD) (W : (b : Ref sig .tc) → Buf (Elt F) ((d.tc : Thread nD τ).loc b)) :
    (unscopedBufs d W : sProp 𝕄) = iprop((argLoc d ↦{fullShare} W main_arg0) ∗ (idxLoc d ↦{fullShare} W main_arg1)
      ∗ (srcLoc d ↦{fullShare} W main_v0) ∗ (dstLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- Two of @main's buffers, held at a valuation. -/
theorem held_pair (d : Dev nD) (a b : Ref sig .tc) (h : a ≠ b) (W : Valuation τ sig (Elt F)) :
    (held (SparseCore.T d) {Proc.devRef .tc a, Proc.devRef .tc b} W : sProp 𝕄)
      = iprop(((SparseCore.T d).loc a ↦{fullShare} W (Proc.devRef .tc a)) ∗ (SparseCore.T d).loc b ↦{fullShare} W (Proc.devRef .tc b)) := by
  unfold held
  rw [SparseCore.bigSep_insert' (by
    rw [Finset.mem_singleton]; exact fun e => h (Proc.devRef_injective _ e)), bigSep_singleton]

/-- @main's two reshapes. -/
abbrev opIn : HloOp τ sig (Elt F) := StableHlo.reshape main_arg0 main_v0 (rfl : (.f16 : EltTy) = .f16) shapeCasts_S1x345x1024_S2760x128
abbrev opOut : HloOp τ sig (Elt F) := StableHlo.reshape main_v1 main_v2 (rfl : (.f16 : EltTy) = .f16) shapeCasts_S2760x128_S345x1024

/-- The buffers' contents at the launch, and after the call, where the filled array is the flat table. -/
def V0 (d : Dev nD) : Valuation τ sig (Elt F) := fun b => m (d, b)
def V1 (d : Dev nD) : Valuation τ sig (Elt F) := Function.update (V0 m d) (Proc.devRef .tc main_v1) (flat m d)

theorem V1_dst (d : Dev nD) : V1 m d (Proc.devRef .tc main_v1) = flat m d := Function.update_self _ _ _
theorem V1_res (d : Dev nD) : V1 m d (Proc.devRef .tc main_v2) = m (resLoc d) :=
  Function.update_of_ne (show (Proc.devRef .tc main_v2 : DevRef τ sig) ≠ Proc.devRef .tc main_v1 by decide) _ _

/-- After the first reshape: the argument as it was, the flat array at the flat table. -/
theorem held_in (d : Dev nD) :
    (held (SparseCore.T d) {Proc.devRef .tc main_arg0, Proc.devRef .tc main_v0} ((opIn (F := F)).result (V0 m d)) : sProp 𝕄)
      = iprop((argLoc d ↦{fullShare} m (argLoc d)) ∗ srcLoc d ↦{fullShare} flat m d) := by
  rw [held_pair d main_arg0 main_v0 (by decide), StableHlo.reshape_result, StableHlo.reshape_result_ne (h := by decide)]
  rfl

/-- After the second reshape: the result at the flat table in the result's shape. -/
theorem held_out (d : Dev nD) :
    (held (SparseCore.T d) {Proc.devRef .tc main_v1, Proc.devRef .tc main_v2} ((opOut (F := F)).result (V1 m d)) : sProp 𝕄)
      = iprop((dstLoc d ↦{fullShare} flat m d) ∗ resLoc d ↦{fullShare} result m d) := by
  rw [held_pair d main_v1 main_v2 (by decide), StableHlo.reshape_result, StableHlo.reshape_result_ne (h := by decide), V1_dst]
  rfl

/-- What @main leaves for the claims: the arguments as they were, and the result. -/
abbrev FIN (d : Dev nD) : sProp 𝕄 :=
  iprop((argLoc d ↦{fullShare} m (argLoc d)) ∗ (idxLoc d ↦{fullShare} m (idxLoc d)) ∗ resLoc d ↦{fullShare} result m d)

variable [FloatOps F]

/-- @main on the TensorCore: the reshape, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Harg, Hidx, Hsrc, Hdst, Hres⟩, Hts, -⟩, -⟩
  iapply (wp_hlo_within 𝒱 (SparseCore.T d) none Set.univ (op := opIn) (S := {Proc.devRef .tc main_arg0, Proc.devRef .tc main_v0})
    (Finset.Subset.refl _) (V := V0 m d)) $$ [Hb Harg Hsrc]
  · isplitl [Hb]; · iexact Hb
    rw [held_pair d main_arg0 main_v0 (by decide)]
    isplitl [Harg]; · iexact Harg
    iexact Hsrc
  iintro ⟨Hb, Hheld⟩
  ihave Hh := (Entails.of_eq (held_in (F := F) m d)) $$ Hheld
  icases Hh with ⟨Harg, Hsrc⟩
  rw [wp_ret]; imodintro
  iapply ((K (F := F)).wp_run (D (F := F)) 𝒱 (EH := EH) (P := P m) κ d 0) $$ [Hst Hsrc Hdst Hb Harg Hidx Hres Hts]
  isplitr; · iexact Hctx
  isplitl [Hst]; · iexact Hst
  isplitl [Hsrc Hdst]
  · rw [st_pair]
    iapply (give m d _)
    isplitl [Hsrc]; · iexact Hsrc
    iexact Hdst
  iintro ⟨Hst, Hdn⟩
  ihave Hdn' := (Entails.of_eq (dn_pair m d)) $$ Hdn
  ihave Hback := (takeBack m d) $$ Hdn'
  icases Hback with ⟨-, Hdst⟩
  iapply (wp_hlo_within 𝒱 (SparseCore.T d) none Set.univ (op := opOut) (S := {Proc.devRef .tc main_v1, Proc.devRef .tc main_v2})
    (Finset.Subset.refl _) (V := V1 m d)) $$ [Hb Hdst Hres]
  · isplitl [Hb]; · iexact Hb
    rw [held_pair d main_v1 main_v2 (by decide), V1_dst, V1_res]
    isplitl [Hdst]; · iexact Hdst
    iexact Hres
  iintro ⟨Hb, Hheld⟩
  ihave Hh := (Entails.of_eq (held_out (F := F) m d)) $$ Hheld
  icases Hh with ⟨-, Hres⟩
  rw [wp_ret]; imodintro; imodintro
  isplitl [Hst]; · iexact Hst
  isplitr [Hb Hts]
  · isplitl [Harg]; · iexact Harg
    isplitl [Hidx]; · iexact Hidx
    iexact Hres
  isplitl [Hb] <;> iassumption

/-! ## The run -/

/-- What is read off the final memory. -/
def ends (d : Dev nD) (s : MemSt nD τ sig (Elt F)) : Prop :=
  s.mem (resLoc d) = result m d ∧ s.mem (argLoc d) = m (argLoc d) ∧ s.mem (idxLoc d) = m (idxLoc d)

theorem hfin (d : Dev nD) (s' : Phys nD τ sig (Elt F)) : iprop(FIN m d ∗ SI s') ⊢ (⌜ends m d s'.mem⌝ : sProp 𝕄) := by
  iintro ⟨⟨Harg, Hidx, Hres⟩, HSI⟩
  ihave H := (persistent_entails_right (SI_pointsTo_agree (st := s') (ℓ := argLoc d) (I := Finset.univ) (q := fullShare) (f := m (argLoc d)))) $$ [HSI Harg]
  · isplitl [HSI] <;> iassumption
  icases H with ⟨%ha, HSI, -⟩
  ihave H := (persistent_entails_right (SI_pointsTo_agree (st := s') (ℓ := idxLoc d) (I := Finset.univ) (q := fullShare) (f := m (idxLoc d)))) $$ [HSI Hidx]
  · isplitl [HSI] <;> iassumption
  icases H with ⟨%hi, HSI, -⟩
  ihave H := (SI_pointsTo_agree (st := s') (ℓ := resLoc d) (I := Finset.univ) (q := fullShare) (f := result m d)) $$ [HSI Hres]
  · isplitl [HSI] <;> iassumption
  icases H with %hr
  ipureintro
  exact ⟨funext fun i => hr i (Finset.mem_univ i), funext fun i => ha i (Finset.mem_univ i), funext fun i => hi i (Finset.mem_univ i)⟩

/-- Every execution of the program ends with the result at the table's elements in the result's shape, both arguments
    unchanged and every semaphore counter at zero. -/
theorem run_main [∀ e, Nonempty (Elt F e)] :
    θ_run (Cert.KernelIdeal.defs (F := F)) (Cert.KernelIdeal.threads (F := F)) ⟨m, fun _ => 0, ρ⟩
      fun r => (∀ c : Dev nD, ends m c r.2) ∧ r.2.sem = fun _ => 0 :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fun d s' => ends m d s'.mem) (hfin m)
    (fun r => (∀ c : Dev nD, ends m c r.2) ∧ r.2.sem = fun _ => 0) (fun _ h hz => ⟨h, hz⟩)

end Cert.Proof.Copy

end
-- ==== Proof.RefRun.lean ====
/-
  The reference's run. `para[classes]` is printed as twenty-one operations on single integers that compute where the slice
  starts, then the slice, then a reshape. The slice has the size of the whole operand, and a slice's start is moved until
  the slice lies inside its operand: so it starts at zero whatever the integers are, and the result is the operand
  reshaped. This file states that of the run, over any float values: the result is the first argument's elements at the
  result's shape, both arguments are unchanged, and every semaphore counter is zero.
-/
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.DynamicIndex

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- A slice of the operand's own size is the operand, wherever it is asked to start. -/
theorem slice_whole {s : Shape} {α : Type} (x : s.Idx → α) (start : Fin s.rank → Int) (h : s.Slices (fun _ => 0) s) :
    Host.dynamicSlice s x start h = x := by
  rw [Host.dynamicSlice_eq_extractStridedSlice_of_clamp s x start h (fun _ => 0)
    (fun a => by simp only [Fin.cast_eq_self, Nat.sub_self]; omega) h]
  funext j
  exact congrArg x (funext fun a => Fin.ext (Nat.zero_add _))

variable {F : FTy → Type} [FloatOps F]

/-- One 32-bit integer, and one truth value, as a tensor value of the program holds it. -/
abbrev Word (F : FTy → Type) : Type := (⟨S_, .i32⟩ : BufTy).Contents (Elt F)
abbrev Flag (F : FTy → Type) : Type := (⟨S_, .i1⟩ : BufTy).Contents (Elt F)

/-- The operations on integers, which compute the slice's start. -/
abbrev startOps : List (HloOp τ sig (Elt F)) :=
  [ nullary main_c (constantI S_ 32 0#32),
    binary main_arg1 main_c main_v0 (cmpi .slt : Word F → Word F → Flag F),
    nullary main_c_0 (constantI S_ 32 1#32),
    binary main_arg1 main_c_0 main_v1 (addi : Word F → Word F → Word F),
    ternary main_v0 main_v1 main_arg1 main_v2 (select : Flag F → Word F → Word F → Word F),
    nullary main_c_1 (constantI S_ 32 0#32),
    nullary main_c_2 (constantI S_ 32 0#32),
    binary main_c_1 main_c_2 main_v3 (cmpi .slt : Word F → Word F → Flag F),
    nullary main_c_3 (constantI S_ 32 0#32),
    nullary main_c_4 (constantI S_ 32 345#32),
    binary main_c_3 main_c_4 main_v4 (addi : Word F → Word F → Word F),
    nullary main_c_5 (constantI S_ 32 0#32),
    ternary main_v3 main_v4 main_c_5 main_v5 (select : Flag F → Word F → Word F → Word F),
    nullary main_c_6 (constantI S_ 32 0#32),
    nullary main_c_7 (constantI S_ 32 0#32),
    binary main_c_6 main_c_7 main_v6 (cmpi .slt : Word F → Word F → Flag F),
    nullary main_c_8 (constantI S_ 32 0#32),
    nullary main_c_9 (constantI S_ 32 1024#32),
    binary main_c_8 main_c_9 main_v7 (addi : Word F → Word F → Word F),
    nullary main_c_10 (constantI S_ 32 0#32),
    ternary main_v6 main_v7 main_c_10 main_v8 (select : Flag F → Word F → Word F → Word F) ]

/-- The slice, of the operand's own size. -/
abbrev sliceOp : HloOp τ sig (Elt F) :=
  unaryIndexed main_arg0 ![main_v2, main_v5, main_v8] ⟨S_, .i32⟩ main_v9
    ((fun x i => Host.dynamicSlice S1x345x1024 x (fun k => (i k (Shape.Idx.first h_S_)).toInt) sliceFits_S1x345x1024_S1x345x1024) : (⟨S1x345x1024, .f16⟩ : BufTy).Contents (Elt F) → (Fin 3 → Word F) → (⟨S1x345x1024, .f16⟩ : BufTy).Contents (Elt F))

/-- The reshape to the result's shape. -/
abbrev reshapeOp : HloOp τ sig (Elt F) :=
  reshape main_v9 main_v10 (rfl : (.f16 : EltTy) = .f16) shapeCasts_S1x345x1024_S345x1024

abbrev ops : List (HloOp τ sig (Elt F)) := startOps ++ [sliceOp, reshapeOp]

/-- The program is these operations in order. -/
theorem main_eq (c : Dev nD) : main (F := F) c = seq ops := rfl

/-- The program's memory is not scoped, and it has no semaphore. -/
theorem no_scopedRefs : (Finset.univ.filter fun b : Ref sig .tc => b.isScoped) = ∅ := by decide
theorem no_scopedSems : (Finset.univ.filter fun sm : SemLoc sig => sm.isScoped .tc) = ∅ := by decide

/-- Every operation works on the TensorCore's buffers. -/
theorem ops_bufs : (ops : List (HloOp τ sig (Elt F))).Forall fun op => op.bufs ⊆ tcRefs τ sig := by
  simp only [ops, startOps, List.cons_append, List.nil_append, List.forall_cons, List.Forall, nullary_bufs_sub, binary_bufs_sub,
    ternary_bufs_sub, unaryIndexed_bufs_sub, reshape_bufs_sub, and_self]

/-- The operations before the slice write neither argument. -/
theorem startOps_arg0 (V : Valuation τ sig (Elt F)) : after startOps V (main_arg0 : DevRef τ sig) = V (main_arg0 : DevRef τ sig) := by
  after_results
theorem startOps_arg1 (V : Valuation τ sig (Elt F)) : after startOps V (main_arg1 : DevRef τ sig) = V (main_arg1 : DevRef τ sig) := by
  after_results

/-- The two last operations after the others. -/
theorem after_ops (V : Valuation τ sig (Elt F)) :
    after ops V = (reshapeOp (F := F)).result ((sliceOp (F := F)).result (after startOps V)) := rfl

/-- The arguments end as they began. -/
theorem arg0_eq (V : Valuation τ sig (Elt F)) : after ops V (main_arg0 : DevRef τ sig) = V (main_arg0 : DevRef τ sig) := by
  rw [after_ops, reshape_result_ne (h := by decide), unaryIndexed_result_ne (h := by decide)]
  exact startOps_arg0 V
theorem arg1_eq (V : Valuation τ sig (Elt F)) : after ops V (main_arg1 : DevRef τ sig) = V (main_arg1 : DevRef τ sig) := by
  rw [after_ops, reshape_result_ne (h := by decide), unaryIndexed_result_ne (h := by decide)]
  exact startOps_arg1 V

/-- The result is the first argument at the result's shape. -/
theorem out_eq (V : Valuation τ sig (Elt F)) :
    after ops V (main_v10 : DevRef τ sig) = shapeCast S345x1024 (V (main_arg0 : DevRef τ sig)) shapeCasts_S1x345x1024_S345x1024 := by
  rw [after_ops, reshape_result, unaryIndexed_result, startOps_arg0, slice_whole]
  rfl

/-- Every execution of the reference ends with the result at the first argument's elements, in the result's shape, both
    arguments unchanged and every semaphore counter at zero. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v10)
          = shapeCast S345x1024 (m ((c.tc : Thread nD τ).loc main_arg0)) shapeCasts_S1x345x1024_S345x1024
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v10).trans (out_eq _), (h c main_arg0).trans (arg0_eq _),
      (h c main_arg1).trans (arg1_eq _)⟩, sem_eq_zero_of_no_sems (by decide) r.2⟩)
    (run_seq no_scopedRefs no_scopedSems defs main (fun _ => ops) main_eq (fun _ => ops_bufs) m ρ)

end Cert.Proof.Ref

end
-- ==== Proof.lean ====
/-
  The certificate's claim. The kernel returns its table argument at the result's shape (Proof/Run.lean), and so does the
  reference, whose index argument can only select the whole table (Proof/RefRun.lean). Both runs are proved once, over any
  float values; each claim below reads one of them at the bit patterns or at the extended reals.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Run
public import proofs.«01_k».proof.Proof.RefRun

@[expose] public section

noncomputable section

namespace Cert.Proof

open Idealize.ShloMosaic Idealize.SL.Sem

/-- The kernel at bit patterns: every execution ends, the arguments are unchanged and every semaphore counter is zero. -/
theorem frame_kernel : Cert.quiescent_Kernel := fun m ρ _ =>
  (θ_run Cert.KernelIdeal.defs _ _).mono (fun _ h => ⟨fun c => (h.1 c).2, h.2⟩) (Copy.run_main (F := Bits) m ρ)

/-- The same of the kernel at extended reals. -/
theorem frame_kernelIdeal : Cert.quiescent_KernelIdeal := fun m ρ _ =>
  (θ_run Cert.KernelIdeal.defs _ _).mono (fun _ h => ⟨fun c => (h.1 c).2, h.2⟩) (Copy.run_main (F := Ideal) m ρ)

/-- The reference at bit patterns: every execution ends, the arguments are unchanged and every semaphore counter is zero. -/
theorem frame_ref : Cert.quiescent_Reference := fun m ρ _ =>
  (θ_run Cert.ReferenceIdeal.defs _ _).mono (fun _ h => ⟨fun c => (h.1 c).2, h.2⟩) (Ref.run_main (F := Bits) m ρ)

/-- The same of the reference at extended reals. -/
theorem frame_refIdeal : Cert.quiescent_ReferenceIdeal := fun m ρ _ =>
  (θ_run Cert.ReferenceIdeal.defs _ _).mono (fun _ h => ⟨fun c => (h.1 c).2, h.2⟩) (Ref.run_main (F := Ideal) m ρ)

/-- At extended reals the kernel and the reference return the same array: the table at the result's shape. -/
theorem algebraic : Cert.algebraic_KernelIdeal_ReferenceIdeal := fun m ρ m' ρ' _ hm =>
  ⟨fun c => Copy.result m c,
    (θ_run Cert.KernelIdeal.defs _ _).mono (fun _ h c => h.1 c) (Copy.run_main (F := Ideal) m ρ),
    (θ_run Cert.ReferenceIdeal.defs _ _).mono
      (fun _ h c => ⟨((h.1 c).1.trans (congrArg (fun x => shapeCast Cert.ReferenceIdeal.S345x1024 x _) (hm c).1)).trans
        (Copy.result_eq m c _).symm, (h.1 c).2⟩)
      (Ref.run_main (F := Ideal) m' ρ')⟩

/-- At bit patterns too: the kernel's result is the reference's, bit for bit. -/
theorem bitexact : Cert.bitexact_Kernel_Reference := fun m ρ m' ρ' _ hm =>
  ⟨fun c => Copy.result (F := Bits) m c,
    (θ_run Cert.KernelIdeal.defs _ _).mono (fun _ h c => h.1 c) (Copy.run_main (F := Bits) m ρ),
    (θ_run Cert.ReferenceIdeal.defs _ _).mono
      (fun _ h c => ⟨((h.1 c).1.trans (congrArg (fun x => shapeCast Cert.ReferenceIdeal.S345x1024 x _) (hm c).1)).trans
        (Copy.result_eq (F := Bits) m c _).symm, (h.1 c).2⟩)
      (Ref.run_main (F := Bits) m' ρ')⟩

/-- Everything the certificate claims. -/
theorem claim : Cert.Claim :=
  ⟨Cert.Kernel.Gen.facts, Cert.Reference.Gen.facts, Cert.KernelIdeal.Gen.facts, Cert.ReferenceIdeal.Gen.facts,
    frame_kernel, frame_ref, frame_kernelIdeal, frame_refIdeal, trivial, trivial, algebraic, bitexact⟩

end Cert.Proof

end
